-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S2x768x8x8 : Shape := ⟨4, ![2, 768, 8, 8]⟩
abbrev S_ : Shape := ⟨0, ![]⟩

class Facts : Prop where
  bcast_S2x768x8_S2x768x8x8_0_1_2 : S2x768x8.BroadcastsInDim S2x768x8x8 (![0, 1, 2] : Fin 3 → Fin S2x768x8x8.rank)
  bcast_S2x768x8_S2x768x8x8_0_1_3 : S2x768x8.BroadcastsInDim S2x768x8x8 (![0, 1, 3] : Fin 3 → Fin S2x768x8x8.rank)
  bcast_S_S2x768x8x8 : S_.BroadcastsInDim S2x768x8x8 (![] : Fin 0 → Fin S2x768x8x8.rank)

variable [Facts]

def fn {F : FTy → Type} [FloatOps F] (main_arg0 : FVec F S2x768x7168 .fp8e4m3) (main_arg1 : FVec F S2x768 .f32) (main_arg2 : FVec F S7168x256 .bf16) (main_arg3 : IVec S2x768x8 32) (main_arg4 : FVec F S2x768x8 .bf16) : IVec S2x768x8x8 1 :=
  let main_v0 : IVec S2x768x8x8 32 := broadcastInDim S2x768x8x8 ![0, 1, 2] bcast_S2x768x8_S2x768x8x8_0_1_2 main_arg3
  let main_v1 : IVec S2x768x8x8 32 := broadcastInDim S2x768x8x8 ![0, 1, 3] bcast_S2x768x8_S2x768x8x8_0_1_3 main_arg3
  let main_v2 : IVec S2x768x8x8 32 := iotaInDim S2x768x8x8 32 2
  let main_v3 : IVec S2x768x8x8 32 := iotaInDim S2x768x8x8 32 3
  let main_c : IVec S_ 32 := constantI S_ 32 0#32
  let main_v4 : IVec S2x768x8x8 32 := broadcastInDim S2x768x8x8 ![] bcast_S_S2x768x8x8 main_c
  let main_v5 : IVec S2x768x8x8 1 := cmpi .sge main_v0 main_v4
  let main_c_0 : IVec S_ 32 := constantI S_ 32 256#32
  let main_v6 : IVec S2x768x8x8 32 := broadcastInDim S2x768x8x8 ![] bcast_S_S2x768x8x8 main_c_0
  let main_v7 : IVec S2x768x8x8 1 := cmpi .slt main_v0 main_v6
  let main_v8 : IVec S2x768x8x8 1 := andi main_v5 main_v7
  let main_v9 : IVec S2x768x8x8 1 := cmpi .ne main_v0 main_v1
  let main_v10 : IVec S2x768x8x8 1 := cmpi .eq main_v2 main_v3
  let main_v11 : IVec S2x768x8x8 1 := ori main_v9 main_v10
  let main_v12 : IVec S2x768x8x8 1 := andi main_v8 main_v11
  main_v12
-- ==== Kernel.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S1536x7168 : Shape := ⟨2, ![1536, 7168]⟩
abbrev S1536x1 : Shape := ⟨2, ![1536, 1]⟩
abbrev S1536x8 : Shape := ⟨2, ![1536, 8]⟩
abbrev S1536x256 : Shape := ⟨2, ![1536, 256]⟩
abbrev S256x7168 : Shape := ⟨2, ![256, 7168]⟩
abbrev S256x1 : Shape := ⟨2, ![256, 1]⟩
abbrev S256x8 : Shape := ⟨2, ![256, 8]⟩
abbrev S256x256 : Shape := ⟨2, ![256, 256]⟩
abbrev S256 : Shape := ⟨1, ![256]⟩
abbrev S2x768x256 : Shape := ⟨3, ![2, 768, 256]⟩

abbrev nBuf : Space → Nat
  | .hbm => 14
  | .vmem => 14
  | .smem => 0
  | _ => 0

abbrev bufTy : (tb : Table) → Fin (tcTables nBuf tb) → BufTy
  | .hbm, ⟨0, _⟩ => ⟨S2x768x7168, .fp8e4m3⟩
  | .hbm, ⟨1, _⟩ => ⟨S2x768, .f32⟩
  | .hbm, ⟨2, _⟩ => ⟨S7168x256, .bf16⟩
  | .hbm, ⟨3, _⟩ => ⟨S2x768x8, .i32⟩
  | .hbm, ⟨4, _⟩ => ⟨S2x768x8, .bf16⟩
  | .hbm, ⟨5, _⟩ => ⟨S1536x7168, .fp8e4m3⟩
  | .hbm, ⟨6, _⟩ => ⟨S1536x1, .f32⟩
  | .hbm, ⟨7, _⟩ => ⟨S1536x8, .i32⟩
  | .hbm, ⟨8, _⟩ => ⟨S1536x8, .bf16⟩
  | .hbm, ⟨9, _⟩ => ⟨S1536x7168, .bf16⟩
  | .hbm, ⟨10, _⟩ => ⟨S7168x256, .f32⟩
  | .hbm, ⟨11, _⟩ => ⟨S1536x256, .f32⟩
  | .hbm, ⟨12, _⟩ => ⟨S2x768x7168, .bf16⟩
  | .hbm, ⟨13, _⟩ => ⟨S2x768x256, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x1, .f32⟩
  | .local _ .vmem, ⟨3, _⟩ => ⟨S256x1, .f32⟩
  | .local _ .vmem, ⟨4, _⟩ => ⟨S7168x256, .bf16⟩
  | .local _ .vmem, ⟨5, _⟩ => ⟨S256x8, .i32⟩
  | .local _ .vmem, ⟨6, _⟩ => ⟨S256x8, .i32⟩
  | .local _ .vmem, ⟨7, _⟩ => ⟨S256x8, .bf16⟩
  | .local _ .vmem, ⟨8, _⟩ => ⟨S256x8, .bf16⟩
  | .local _ .vmem, ⟨9, _⟩ => ⟨S256x7168, .bf16⟩
  | .local _ .vmem, ⟨10, _⟩ => ⟨S256x7168, .bf16⟩
  | .local _ .vmem, ⟨11, _⟩ => ⟨S7168x256, .f32⟩
  | .local _ .vmem, ⟨12, _⟩ => ⟨S256x256, .f32⟩
  | .local _ .vmem, ⟨13, _⟩ => ⟨S256x256, .f32⟩
  | _, _ => ⟨S2x768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v120 : BitVec 1 := Scalar.cmpi .eq arg0 c0_i32
  let v121 : BitVec 32 := Scalar.extui v120
  let c0_i32_31 : BitVec 32 := 0#32
  let v122 : BitVec 1 := Scalar.cmpi .ne v121 c0_i32_31
  v122

def k0_cond2 (i : grid0.Coords) : BitVec 1 :=
  let arg0 : BitVec 32 := BitVec.ofNat 32 (i 0).val
  let c0_i32_32 : BitVec 32 := 0#32
  let v123 : BitVec 1 := Scalar.cmpi .sgt arg0 c0_i32_32
  let v124 : BitVec 32 := Scalar.extui v123
  let c0_i32_33 : BitVec 32 := 0#32
  let v125 : BitVec 1 := Scalar.cmpi .ne v124 c0_i32_33
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S7168x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x768x7168 : Shape := ⟨3, ![2, 768, 7168]⟩
abbrev S2x768 : Shape := ⟨2, ![2, 768]⟩
abbrev S7168x256 : Shape := ⟨2, ![7168, 256]⟩
abbrev S2x768x8 : Shape := ⟨3, ![2, 768, 8]⟩
abbrev S1536x7168 : Shape := ⟨2, ![1536, 7168]⟩
abbrev S1536x1 : Shape := ⟨2, ![1536, 1]⟩
abbrev S1536x8 : Shape := ⟨2, ![1536, 8]⟩
abbrev S1536x256 : Shape := ⟨2, ![1536, 256]⟩
abbrev S1536x8x1 : Shape := ⟨3, ![1536, 8, 1]⟩
abbrev S1x256 : Shape := ⟨2, ![1, 256]⟩
abbrev S256 : Shape := ⟨1, ![256]⟩
abbrev S1x1x256 : Shape := ⟨3, ![1, 1, 256]⟩
abbrev S1536x8x256 : Shape := ⟨3, ![1536, 8, 256]⟩
abbrev S1536x1x256 : Shape := ⟨3, ![1536, 1, 256]⟩
abbrev S1536 : Shape := ⟨1, ![1536]⟩
abbrev S2x768x256 : Shape := ⟨3, ![2, 768, 256]⟩

abbrev nBuf : Space → Nat
  | .hbm => 14
  | .vmem => 8
  | .smem => 0
  | _ => 0

abbrev bufTy : (tb : Table) → Fin (tcTables nBuf tb) → BufTy
  | .hbm, ⟨0, _⟩ => ⟨S2x768x7168, .fp8e4m3⟩
  | .hbm, ⟨1, _⟩ => ⟨S2x768, .f32⟩
  | .hbm, ⟨2, _⟩ => ⟨S7168x256, .bf16⟩
  | .hbm, ⟨3, _⟩ => ⟨S2x768x8, .i32⟩
  | .hbm, ⟨4, _⟩ => ⟨S2x768x8, .bf16⟩
  | .hbm, ⟨5, _⟩ => ⟨S1536x7168, .fp8e4m3⟩
  | .hbm, ⟨6, _⟩ => ⟨S1536x1, .f32⟩
  | .hbm, ⟨7, _⟩ => ⟨S1536x8, .i32⟩
  | .hbm, ⟨8, _⟩ => ⟨S1536x8, .bf16⟩
  | .hbm, ⟨9, _⟩ => ⟨S1536x7168, .bf16⟩
  | .hbm, ⟨10, _⟩ => ⟨S7168x256, .f32⟩
  | .hbm, ⟨11, _⟩ => ⟨S1536x256, .f32⟩
  | .hbm, ⟨12, _⟩ => ⟨S2x768x7168, .bf16⟩
  | .hbm, ⟨13, _⟩ => ⟨S2x768x256, .f32⟩
  | .local _ .vmem, ⟨0, _⟩ => ⟨S1536x7168, .fp8e4m3⟩
  | .local _ .vmem, ⟨1, _⟩ => ⟨S1536x1, .f32⟩
  | .local _ .vmem, ⟨2, _⟩ => ⟨S7168x256, .bf16⟩
  | .local _ .vmem, ⟨3, _⟩ => ⟨S1536x8, .i32⟩
  | .local _ .vmem, ⟨4, _⟩ => ⟨S1536x8, .bf16⟩
  | .local _ .vmem, ⟨5, _⟩ => ⟨S1536x7168, .bf16⟩
  | .local _ .vmem, ⟨6, _⟩ => ⟨S7168x256, .f32⟩
  | .local _ .vmem, ⟨7, _⟩ => ⟨S1536x256, .f32⟩
  | _, _ => ⟨S2x768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Gate.lean ====
/- The gate of one token, over the extended reals. A token has a logit per expert, a list of eight expert ids and
   a gradient per listed expert. The kernel works on rows of 256 experts with zeros where an expert was not listed;
   the plain formulas work on the eight listed experts and scatter the result. The two agree when the ids are
   numbers of experts and no two are equal. -/
module

public import Idealize.ShloMosaic.Lib.Pipeline.ValueKit
public import Idealize.ShloMosaic.Lib.Pointwise

@[expose] public section

noncomputable section

namespace Cert.Proof

open Idealize.ShloMosaic

/-- The number the scale's bit pattern stands for. -/
abbrev scale : EReal := Ideal.ofBits FTy.f32 1075838976#32

/-- The eight values `a` put at the experts `ids` names: at expert `e`, the sum of the values whose id is `e`. -/
def spread (ids : Fin 8 → BitVec 32) (a : Fin 8 → EReal) (e : Fin 256) : EReal :=
  ∑ k, if ids k = BitVec.ofNat 32 e.val then a k else 0

/-- A sum of gates, or one where it is not positive. -/
def denom (S : EReal) : EReal := if 0 < S then S else 1

/-- The gradient of the normalised, scaled gates with respect to the logits, over any list of gates `sg` with
    gradients `dg`. -/
def grad {n : ℕ} (dg sg : Fin n → EReal) (i : Fin n) : EReal :=
  Ideal.div (scale * (dg i - Ideal.div (∑ j, dg j * sg j) (denom (∑ j, sg j)))) (denom (∑ j, sg j)) * sg i * (1 - sg i)

/-- The gates as rows of 256: the logistic of each logit, times one where the expert is listed and zero elsewhere. -/
def rowGate (l : Fin 256 → EReal) (ids : Fin 8 → BitVec 32) (e : Fin 256) : EReal :=
  Ideal.logistic (l e) * spread ids (fun _ => 1) e

/-- The gates as a list of eight: the logistic of the logit each id selects. -/
def listGate (l : Fin 256 → EReal) (ids : Fin 8 → BitVec 32) (k : Fin 8) : EReal :=
  Ideal.logistic (∑ e : Fin 256, if ids k = BitVec.ofNat 32 e.val then l e else 0)

/-- The logits' gradient as the kernel computes it: on rows of 256. -/
def rowGrad (l : Fin 256 → EReal) (ids : Fin 8 → BitVec 32) (a : Fin 8 → EReal) (e : Fin 256) : EReal :=
  grad (spread ids a) (rowGate l ids) e

/-- The logits' gradient by the plain formulas: on the list of eight, then put at the listed experts. -/
def listGrad (l : Fin 256 → EReal) (ids : Fin 8 → BitVec 32) (a : Fin 8 → EReal) (e : Fin 256) : EReal :=
  spread ids (grad a (listGate l ids)) e

/-- Every id is the number of an expert, and no two ids are equal. -/
structure Distinct (ids : Fin 8 → BitVec 32) : Prop where
  /-- Each id is a number of an expert. -/
  inRange : ∀ k, (ids k).toNat < 256
  /-- Equal ids have equal places. -/
  inj : Function.Injective ids

variable {ids : Fin 8 → BitVec 32}

/-- Words of numbers below 256 are equal only for equal numbers. -/
theorem eq_ofNat_iff (h : Distinct ids) (k : Fin 8) (e : Fin 256) :
    ids k = BitVec.ofNat 32 e.val ↔ (⟨(ids k).toNat, h.inRange k⟩ : Fin 256) = e := by
  rw [Fin.ext_iff, ← BitVec.toNat_inj, BitVec.toNat_ofNat, Nat.mod_eq_of_lt (by omega)]

/-- At a listed expert, the spread value is the value listed. -/
theorem spread_at (h : Distinct ids) (a : Fin 8 → EReal) (k : Fin 8) :
    spread ids a ⟨(ids k).toNat, h.inRange k⟩ = a k := by
  unfold spread
  rw [Finset.sum_eq_single k]
  · rw [if_pos ((eq_ofNat_iff h k _).mpr rfl)]
  · intro j _ hj
    rw [if_neg]
    intro e
    have := congrArg Fin.val ((eq_ofNat_iff h j _).mp e)
    exact hj (h.inj (BitVec.eq_of_toNat_eq this))
  · exact fun hk => absurd (Finset.mem_univ k) hk

/-- At an expert that is not listed, the spread value is zero. -/
theorem spread_off (a : Fin 8 → EReal) (e : Fin 256) (he : ∀ k, ids k ≠ BitVec.ofNat 32 e.val) : spread ids a e = 0 :=
  Finset.sum_eq_zero fun k _ => if_neg (he k)

/-- Summing a spread row is summing the list. -/
theorem sum_spread (h : Distinct ids) (a : Fin 8 → EReal) : ∑ e, spread ids a e = ∑ k, a k := by
  unfold spread
  rw [Finset.sum_comm]
  refine Finset.sum_congr rfl fun k _ => ?_
  rw [Finset.sum_eq_single ⟨(ids k).toNat, h.inRange k⟩]
  · rw [if_pos ((eq_ofNat_iff h k _).mpr rfl)]
  · exact fun e _ hne => if_neg fun hk => hne ((eq_ofNat_iff h k e).mp hk).symm
  · exact fun hk => absurd (Finset.mem_univ _) hk

/-- The logit an id selects is the one at that id. -/
theorem listGate_eq (h : Distinct ids) (l : Fin 256 → EReal) (k : Fin 8) :
    listGate l ids k = Ideal.logistic (l ⟨(ids k).toNat, h.inRange k⟩) := by
  unfold listGate
  rw [Finset.sum_eq_single ⟨(ids k).toNat, h.inRange k⟩]
  · rw [if_pos ((eq_ofNat_iff h k _).mpr rfl)]
  · exact fun e _ hne => if_neg fun hk => hne ((eq_ofNat_iff h k e).mp hk).symm
  · exact fun hk => absurd (Finset.mem_univ _) hk

/-- A function of the expert that is `f k` at the `k`-th listed expert and zero elsewhere is `f` spread. -/
theorem eq_spread (h : Distinct ids) (g : Fin 256 → EReal) (f : Fin 8 → EReal)
    (hon : ∀ k, g ⟨(ids k).toNat, h.inRange k⟩ = f k)
    (hoff : ∀ e : Fin 256, (∀ k, ids k ≠ BitVec.ofNat 32 e.val) → g e = 0) (e : Fin 256) : g e = spread ids f e := by
  by_cases he : ∃ k, ids k = BitVec.ofNat 32 e.val
  · obtain ⟨k, hk⟩ := he
    have := (eq_ofNat_iff h k e).mp hk
    subst this
    rw [hon, spread_at h]
  · have he' : ∀ k, ids k ≠ BitVec.ofNat 32 e.val := fun k hk => he ⟨k, hk⟩
    rw [hoff e he', spread_off f e he']

/-- The row of gates is the list of gates spread. -/
theorem rowGate_eq (h : Distinct ids) (l : Fin 256 → EReal) (e : Fin 256) :
    rowGate l ids e = spread ids (listGate l ids) e := by
  refine eq_spread h _ _ (fun k => ?_) (fun e he => ?_) e
  · rw [rowGate, spread_at h, mul_one, listGate_eq h]
  · rw [rowGate, spread_off _ e he, mul_zero]

/-- The two ways of computing the logits' gradient agree when the ids are distinct numbers of experts. -/
theorem rowGrad_eq (h : Distinct ids) (l : Fin 256 → EReal) (a : Fin 8 → EReal) (e : Fin 256) :
    rowGrad l ids a e = listGrad l ids a e := by
  have hS : ∑ e, rowGate l ids e = ∑ k, listGate l ids k := by
    rw [← sum_spread h]
    exact Finset.sum_congr rfl fun e _ => rowGate_eq h l e
  have hR : ∑ e, spread ids a e * rowGate l ids e = ∑ k, a k * listGate l ids k := by
    rw [← sum_spread h]
    refine Finset.sum_congr rfl fun e _ => eq_spread h (fun e => spread ids a e * rowGate l ids e) _ (fun k => ?_) (fun e he => ?_) e
    · show spread ids a _ * rowGate l ids _ = _
      rw [rowGate_eq h, spread_at h, spread_at h]
    · show spread ids a _ * rowGate l ids _ = _
      rw [spread_off a e he, zero_mul]
  unfold rowGrad listGrad
  refine eq_spread h _ _ (fun k => ?_) (fun e he => ?_) e
  · unfold grad
    rw [hS, hR, rowGate_eq h, spread_at h, spread_at h]
  · unfold grad
    rw [rowGate_eq h, spread_off (listGate l ids) e he, mul_zero, zero_mul]

/-- A select on the equality of two words. -/
theorem select_eq_word {α : Type} (x y : BitVec 32) (a b : α) :
    Scalar.select (IntOp.cmpi CmpIPredicate.eq x y) a b = if x = y then a else b := by
  by_cases h : x = y
  · subst h
    simp [IntOp.cmpi, Scalar.select]
  · have hb : (x == y) = false := by simpa using h
    simp [IntOp.cmpi, Scalar.select, h, hb]

/-- The kernel's ladder of eight selects, the last id first, is the spread value. -/
theorem ladder_eq (h : Distinct ids) (a : Fin 8 → EReal) (e : Fin 256) :
    (if ids 7 = BitVec.ofNat 32 e.val then a 7 else if ids 6 = BitVec.ofNat 32 e.val then a 6
      else if ids 5 = BitVec.ofNat 32 e.val then a 5 else if ids 4 = BitVec.ofNat 32 e.val then a 4
      else if ids 3 = BitVec.ofNat 32 e.val then a 3 else if ids 2 = BitVec.ofNat 32 e.val then a 2
      else if ids 1 = BitVec.ofNat 32 e.val then a 1 else if ids 0 = BitVec.ofNat 32 e.val then a 0 else 0)
      = spread ids a e := by
  refine eq_spread h (fun e => if ids 7 = BitVec.ofNat 32 e.val then a 7 else if ids 6 = BitVec.ofNat 32 e.val then a 6
      else if ids 5 = BitVec.ofNat 32 e.val then a 5 else if ids 4 = BitVec.ofNat 32 e.val then a 4
      else if ids 3 = BitVec.ofNat 32 e.val then a 3 else if ids 2 = BitVec.ofNat 32 e.val then a 2
      else if ids 1 = BitVec.ofNat 32 e.val then a 1 else if ids 0 = BitVec.ofNat 32 e.val then a 0 else 0) a
    (fun k => ?_) (fun e he => ?_) e
  · have hk : ∀ j, (ids j = BitVec.ofNat 32 (ids k).toNat) ↔ j = k := fun j => by
      rw [BitVec.ofNat_toNat, BitVec.setWidth_eq]
      exact h.inj.eq_iff
    simp only [hk]
    fin_cases k <;> rfl
  · simp only [he, if_false]

end Cert.Proof

end
-- ==== Proof.Rows.lean ====
/- What one row of tokens contributes, read off whole arrays or off a tile of them. -/
module

public import proofs.«01_k».proof.Proof.Gate

@[expose] public section

noncomputable section

namespace Cert.Proof

open Idealize.ShloMosaic

/-- A two-axis shape. -/
abbrev Mat (a b : ℕ) : Shape := ⟨2, ![a, b]⟩

variable {n : ℕ}

/-- The logits of token `r`: its codes times the router's weights, times the token's scale. -/
def logitsAt (X : FVec Ideal (Mat n 7168) .fp8e4m3) (W : FVec Ideal (Mat 7168 256) .bf16) (S : FVec Ideal (Mat n 1) .f32)
    (r : Fin n) (e : Fin 256) : EReal := (∑ d, X (ix2 r d) * W (ix2 d e)) * S (ix2 r 0)

/-- The expert ids of token `r`. -/
def idsAt (I : IVec (Mat n 8) 32) (r : Fin n) (k : Fin 8) : BitVec 32 := I (ix2 r k)

/-- The gradients of the listed gates of token `r`. -/
def gradsAt (G : FVec Ideal (Mat n 8) .bf16) (r : Fin n) (k : Fin 8) : EReal := G (ix2 r k)

/-- The logits' gradient of token `r` at expert `e`, computed on rows of 256. -/
def rowOut (X : FVec Ideal (Mat n 7168) .fp8e4m3) (W : FVec Ideal (Mat 7168 256) .bf16) (S : FVec Ideal (Mat n 1) .f32)
    (I : IVec (Mat n 8) 32) (G : FVec Ideal (Mat n 8) .bf16) (r : Fin n) (e : Fin 256) : EReal :=
  rowGrad (logitsAt X W S r) (idsAt I r) (gradsAt G r) e

/-- The logits' gradient of token `r` at expert `e`, by the plain formulas. -/
def listOut (X : FVec Ideal (Mat n 7168) .fp8e4m3) (W : FVec Ideal (Mat 7168 256) .bf16) (S : FVec Ideal (Mat n 1) .f32)
    (I : IVec (Mat n 8) 32) (G : FVec Ideal (Mat n 8) .bf16) (r : Fin n) (e : Fin 256) : EReal :=
  listGrad (logitsAt X W S r) (idsAt I r) (gradsAt G r) e

/-- The two agree on a token whose ids are distinct numbers of experts. -/
theorem rowOut_eq (X : FVec Ideal (Mat n 7168) .fp8e4m3) (W : FVec Ideal (Mat 7168 256) .bf16)
    (S : FVec Ideal (Mat n 1) .f32) (I : IVec (Mat n 8) 32) (G : FVec Ideal (Mat n 8) .bf16) (r : Fin n) (e : Fin 256)
    (h : Distinct (idsAt I r)) : rowOut X W S I G r e = listOut X W S I G r e :=
  rowGrad_eq h _ _ e

end Cert.Proof

end
-- ==== Proof.KernelTile.lean ====
/- What the kernel computes on one tile of 256 tokens, element by element. -/
module

public import proofs.«01_k».proof.Proof.Rows
public import proofs.«01_k».proof.Proof.Gen.KernelIdeal.Frame

@[expose] public section

set_option maxRecDepth 16384

noncomputable section

namespace Cert.Proof.KernelTile

open Idealize.ShloMosaic Idealize.SL.Sem Cert.KernelIdeal Cert.KernelIdeal.Gen

variable (x0 : Vec Ideal S256x7168 .fp8e4m3) (x1 : Vec Ideal S256x1 .f32) (x2 : Vec Ideal S7168x256 .bf16)
  (x3 : Vec Ideal S256x8 .i32) (x4 : Vec Ideal S256x8 .bf16)

/-- The number of each expert, on every row of the tile. -/
abbrev experts : IVec S256x256 32 := iota Kind.tc S256x256 32 [1] iota_S256x256_d1_w32

/-- The tile's gate gradients, on rows of 256. -/
abbrev tileGrads : FVec Ideal S256x256 .f32 :=
  k0_pay22 (k0_pay9 (F := Ideal) x3) (k0_pay10 x4) experts (k0_pay13 x3 x4) (k0_pay14 (F := Ideal) x3) (k0_pay16 x4)
/-- The tile's gates, on rows of 256. -/
abbrev tileGates : FVec Ideal S256x256 .f32 := k0_pay23 (k0_pay8 x0 x2 x1) (k0_pay9 (F := Ideal) x3) experts (k0_pay15 x3)
/-- The tile's sums of gates. -/
abbrev tileSums : FVec Ideal S256x1 .f32 := k0_pay24 (k0_pay8 x0 x2 x1) (k0_pay9 (F := Ideal) x3) experts (k0_pay15 x3)
/-- Which sums of gates are positive. -/
abbrev tilePos : IVec S256x1 1 := k0_pay25 (k0_pay8 x0 x2 x1) (k0_pay9 (F := Ideal) x3) experts (k0_pay15 x3)

/-- The gate gradients are the listed ones put at the listed experts. -/
theorem tileGrads_at (r e : Fin 256) (h : Distinct (idsAt x3 r)) :
    tileGrads x3 x4 (ix2 r e) = spread (idsAt x3 r) (gradsAt x4 r) e := by
  rw [← ladder_eq h]
  pointwise [k0_pay22, k0_pay17, k0_pay18, k0_pay19, k0_pay20, k0_pay21, k0_pay9, k0_pay10, k0_pay13, k0_pay11, k0_pay12,
    k0_pay14, k0_pay16, idsAt, gradsAt]
  simp only [select_eq_word]

/-- The gates are the logistic of the logits where an expert is listed. -/
theorem tileGates_at (r e : Fin 256) (h : Distinct (idsAt x3 r)) :
    tileGates x0 x1 x2 x3 (ix2 r e) = rowGate (logitsAt x0 x2 x1 r) (idsAt x3 r) e := by
  unfold rowGate
  rw [← ladder_eq h]
  pointwise [k0_pay23, k0_pay17, k0_pay18, k0_pay19, k0_pay20, k0_pay21, k0_pay9, k0_pay15, k0_pay11, k0_pay12,
    k0_pay14, k0_pay8, k0_pay6, k0_pay7, idsAt, logitsAt]
  simp only [select_eq_word]
  rfl

/-- The sums of gates. -/
theorem tileSums_at (r : Fin 256) :
    tileSums x0 x1 x2 x3 (ix2 r 0) = ∑ e, tileGates x0 x1 x2 x3 (ix2 r e) := by
  pointwise [k0_pay24]

/-- The divisor: the sum of gates, or one where it is not positive. -/
theorem tileDenom_at (r : Fin 256) :
    Scalar.select (tilePos x0 x1 x2 x3 (ix2 r 0)) (tileSums x0 x1 x2 x3 (ix2 r 0)) (1 : EReal)
      = denom (∑ e, tileGates x0 x1 x2 x3 (ix2 r e)) := by
  rw [← tileSums_at, denom]
  pointwise [k0_pay25]

/-- The tile of the logits' gradient. -/
theorem out_at (r e : Fin 256) (h : Distinct (idsAt x3 r)) :
    k0_pay1 (tileGrads x3 x4) (tileGates x0 x1 x2 x3) (tileSums x0 x1 x2 x3) (tilePos x0 x1 x2 x3)
      (FloatOps.ofBits FTy.f32 1065353216#32) (ix2 r e) = rowOut x0 x2 x1 x3 x4 r e := by
  have hd := tileDenom_at x0 x1 x2 x3 r
  simp only [tileGates_at _ _ _ _ r _ h] at hd
  pointwise [k0_pay1]
  simp only [hd, tileGates_at _ _ _ _ r _ h, tileGrads_at _ _ r _ h]
  rfl

/-- The tile of the logits' gradient, with the number one written out. -/
theorem out_at_one (r e : Fin 256) (h : Distinct (idsAt x3 r)) :
    k0_pay1 (tileGrads x3 x4) (tileGates x0 x1 x2 x3) (tileSums x0 x1 x2 x3) (tilePos x0 x1 x2 x3)
      (1 : EReal) (ix2 r e) = rowOut x0 x2 x1 x3 x4 r e := by
  have hd := tileDenom_at x0 x1 x2 x3 r
  simp only [tileGates_at _ _ _ _ r _ h] at hd
  pointwise [k0_pay1]
  simp only [hd, tileGates_at _ _ _ _ r _ h, tileGrads_at _ _ r _ h]
  rfl

/-- The tile of the codes' gradient: the logits' gradient against the router's weights. -/
theorem codes_at (r : Fin 256) (d : Fin 7168) (h : Distinct (idsAt x3 r)) :
    k0_pay3 x2 (tileGrads x3 x4) (tileGates x0 x1 x2 x3) (tileSums x0 x1 x2 x3) (tilePos x0 x1 x2 x3)
      (FloatOps.ofBits FTy.f32 1065353216#32) (ix2 r d) = ∑ e, rowOut x0 x2 x1 x3 x4 r e * x2 (ix2 d e) := by
  pointwise [k0_pay3, k0_pay2]
  simp only [out_at_one _ _ _ _ _ r _ h]

/-- The tile's share of the weights' gradient: the codes against the scaled logits' gradient, over the tile's tokens. -/
theorem weights_at (d : Fin 7168) (e : Fin 256) (h : ∀ r, Distinct (idsAt x3 r)) :
    k0_pay4 (k0_pay6 x0) (k0_pay7 x1) (tileGrads x3 x4) (tileGates x0 x1 x2 x3) (tileSums x0 x1 x2 x3)
      (tilePos x0 x1 x2 x3) (FloatOps.ofBits FTy.f32 1065353216#32) (ix2 d e)
      = ∑ r : Fin 256, x0 (ix2 r d) * (rowOut x0 x2 x1 x3 x4 r e * x1 (ix2 r 0)) := by
  pointwise [k0_pay4, k0_pay2, k0_pay6, k0_pay7]
  refine Finset.sum_congr rfl fun r _ => ?_
  rw [out_at_one _ _ _ _ _ r e (h r)]

/-- At the later tiles the share is added to what the earlier ones left. -/
theorem weights_step_at (acc : Vec Ideal S7168x256 .f32) (d : Fin 7168) (e : Fin 256) (h : ∀ r, Distinct (idsAt x3 r)) :
    k0_pay5 (k0_pay6 x0) (k0_pay7 x1) (tileGrads x3 x4) (tileGates x0 x1 x2 x3) (tileSums x0 x1 x2 x3)
      (tilePos x0 x1 x2 x3) (FloatOps.ofBits FTy.f32 1065353216#32) acc (ix2 d e)
      = acc (ix2 d e) + ∑ r : Fin 256, x0 (ix2 r d) * (rowOut x0 x2 x1 x3 x4 r e * x1 (ix2 r 0)) := by
  rw [← weights_at x0 x1 x2 x3 x4 d e h]
  pointwise [k0_pay5]

end Cert.Proof.KernelTile

end
-- ==== Proof.KernelArrays.lean ====
/- What the kernel's three result arrays hold after the grid's six tiles, from the arrays it is launched on. -/
module

public import proofs.«01_k».proof.Proof.KernelTile

@[expose] public section

set_option maxRecDepth 16384

noncomputable section

namespace Cert.Proof.KernelArrays

open Idealize.ShloMosaic Idealize.SL.Sem Cert.KernelIdeal Cert.KernelIdeal.Gen Cert.Proof.KernelTile

variable (m : (ℓ : Loc Cert.KernelIdeal.nD Cert.KernelIdeal.τ Cert.KernelIdeal.sig) → Buf (Elt Ideal) ℓ) (c : Dev nD)

/-- The codes, as the grid reads them. -/
abbrev codes : FVec Ideal S1536x7168 .fp8e4m3 := V m c main_v0
/-- The scales, as the grid reads them. -/
abbrev scales : FVec Ideal S1536x1 .f32 := V m c main_v1
/-- The router's weights, as the grid reads them. -/
abbrev weights : FVec Ideal S7168x256 .bf16 := V m c main_arg2
/-- The expert ids, as the grid reads them. -/
abbrev ids : IVec S1536x8 32 := V m c main_v2
/-- The gate gradients, as the grid reads them. -/
abbrev grads : FVec Ideal S1536x8 .bf16 := V m c main_v3

/-- Where each window's block lies at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] ∧ win0_7.index t = ![t.val, 0] :=
  (by decide +kernel : ∀ t : Fin grid0.N, _)

/-- Row `r` of tile `t` is a row of the arrays. -/
theorem row_lt (t : Fin cfg0.N) (r : Fin 256) : t.val * 256 + r.val < 1536 := by
  have := lt_of_lt_of_eq t.isLt N_0
  omega

/-- The number, in the arrays, of row `r` of tile `t`. -/
abbrev row (t : Fin cfg0.N) (r : Fin 256) : Fin 1536 := ⟨t.val * 256 + r.val, row_lt t r⟩

/-- A tile's codes are rows of the codes. -/
theorem codes_blk (t : Fin cfg0.N) (r : Fin 256) (d : Fin 7168) :
    (show FVec Ideal S256x7168 .fp8e4m3 from iblk m c 0 t) (ix2 r d) = codes m c (ix2 (row t r) d) := by
  blk_point [iblk, idx t]
/-- A tile's scales are rows of the scales. -/
theorem scales_blk (t : Fin cfg0.N) (r : Fin 256) :
    (show FVec Ideal S256x1 .f32 from iblk m c 1 t) (ix2 r 0) = scales m c (ix2 (row t r) 0) := by
  blk_point [iblk, idx t]
/-- Every tile reads the whole weights. -/
theorem weights_blk (t : Fin cfg0.N) : (show FVec Ideal S7168x256 .bf16 from iblk m c 2 t) = weights m c := by
  funext y
  blk_point [iblk, idx t]
/-- A tile's expert ids are rows of the ids. -/
theorem ids_blk (t : Fin cfg0.N) (r : Fin 256) :
    idsAt (show IVec S256x8 32 from iblk m c 3 t) r = idsAt (ids m c) (row t r) := by
  funext k
  unfold idsAt
  blk_point [iblk, idx t]
/-- A tile's gate gradients are rows of the gate gradients. -/
theorem grads_blk (t : Fin cfg0.N) (r : Fin 256) :
    gradsAt (show FVec Ideal S256x8 .bf16 from iblk m c 4 t) r = gradsAt (grads m c) (row t r) := by
  funext k
  unfold gradsAt
  blk_point [iblk, idx t]

/-- A tile's logits are rows of the logits. -/
theorem logits_blk (t : Fin cfg0.N) (r : Fin 256) :
    logitsAt (show FVec Ideal S256x7168 .fp8e4m3 from iblk m c 0 t) (show FVec Ideal S7168x256 .bf16 from iblk m c 2 t)
      (show FVec Ideal S256x1 .f32 from iblk m c 1 t) r = logitsAt (codes m c) (weights m c) (scales m c) (row t r) := by
  funext e
  unfold logitsAt
  rw [weights_blk, scales_blk]
  simp only [codes_blk]

/-- The logits' gradient of a token, on the arrays the grid reads. -/
abbrev out (r : Fin 1536) (e : Fin 256) : EReal := rowOut (codes m c) (weights m c) (scales m c) (ids m c) (grads m c) r e

/-- A tile's logits' gradient is rows of the logits' gradient. -/
theorem out_blk (t : Fin cfg0.N) (r e : Fin 256) :
    rowOut (show FVec Ideal S256x7168 .fp8e4m3 from iblk m c 0 t) (show FVec Ideal S7168x256 .bf16 from iblk m c 2 t)
      (show FVec Ideal S256x1 .f32 from iblk m c 1 t) (show IVec S256x8 32 from iblk m c 3 t)
      (show FVec Ideal S256x8 .bf16 from iblk m c 4 t) r e = out m c (row t r) e := by
  unfold out rowOut
  rw [logits_blk, ids_blk, grads_blk]

/-- A tile's ids are distinct numbers of experts where the arrays' are. -/
theorem distinct_blk (hd : ∀ r, Distinct (idsAt (ids m c) r)) (t : Fin cfg0.N) (r : Fin 256) :
    Distinct (idsAt (show IVec S256x8 32 from iblk m c 3 t) r) := by
  rw [ids_blk]
  exact hd _

/-- The grid has six points. -/
theorem point_lt (t : Fin cfg0.N) : t.val < 6 := lt_of_lt_of_eq t.isLt N_0

/-- After tile `t`, its block of the third result holds the tile's logits' gradient. -/
theorem logits_point (hd : ∀ r, Distinct (idsAt (ids m c) r)) (t : Fin cfg0.N) (r e : Fin 256) :
    (outsAt0 m c t.val t.isLt).2.2 (ix2 r e) = out m c (row t r) e := by
  have ht := point_lt t
  by_cases h0 : t.val % 6 = 0
  · rw [outsAt0_A m c t h0 (by omega)]
    frame_out
    exact (out_at _ _ _ _ _ r e (distinct_blk m c hd t r)).trans (out_blk m c t r e)
  · rw [outsAt0_B m c t h0 (by omega)]
    frame_out
    exact (out_at _ _ _ _ _ r e (distinct_blk m c hd t r)).trans (out_blk m c t r e)

/-- The codes' gradient of a token, on the arrays the grid reads. -/
abbrev outCodes (r : Fin 1536) (d : Fin 7168) : EReal := ∑ e, out m c r e * weights m c (ix2 d e)

/-- A tile's codes' gradient is rows of the codes' gradient. -/
theorem outCodes_blk (t : Fin cfg0.N) (r : Fin 256) (d : Fin 7168) :
    (∑ e, rowOut (show FVec Ideal S256x7168 .fp8e4m3 from iblk m c 0 t) (show FVec Ideal S7168x256 .bf16 from iblk m c 2 t)
      (show FVec Ideal S256x1 .f32 from iblk m c 1 t) (show IVec S256x8 32 from iblk m c 3 t)
      (show FVec Ideal S256x8 .bf16 from iblk m c 4 t) r e * (show FVec Ideal S7168x256 .bf16 from iblk m c 2 t) (ix2 d e))
      = outCodes m c (row t r) d :=
  Finset.sum_congr rfl fun e _ => by rw [out_blk, weights_blk]

/-- After tile `t`, its block of the first result holds the tile's codes' gradient. -/
theorem codes_point (hd : ∀ r, Distinct (idsAt (ids m c) r)) (t : Fin cfg0.N) (r : Fin 256) (d : Fin 7168) :
    (outsAt0 m c t.val t.isLt).1 (ix2 r d) = outCodes m c (row t r) d := by
  have ht := point_lt t
  by_cases h0 : t.val % 6 = 0
  · rw [outsAt0_A m c t h0 (by omega)]
    frame_out
    exact (codes_at _ _ _ _ _ r d (distinct_blk m c hd t r)).trans (outCodes_blk m c t r d)
  · rw [outsAt0_B m c t h0 (by omega)]
    frame_out
    exact (codes_at _ _ _ _ _ r d (distinct_blk m c hd t r)).trans (outCodes_blk m c t r d)

/-- Tile `t`'s share of the weights' gradient. -/
abbrev share (t : Fin cfg0.N) (j : S7168x256.Idx) : EReal :=
  ∑ r : Fin 256, codes m c (ix2 (row t r) (j 0)) * (out m c (row t r) (j 1) * scales m c (ix2 (row t r) 0))

/-- A tile's share, read off its blocks. -/
theorem share_blk (t : Fin cfg0.N) (d : Fin 7168) (e : Fin 256) :
    (∑ r : Fin 256, (show FVec Ideal S256x7168 .fp8e4m3 from iblk m c 0 t) (ix2 r d)
      * (rowOut (show FVec Ideal S256x7168 .fp8e4m3 from iblk m c 0 t) (show FVec Ideal S7168x256 .bf16 from iblk m c 2 t)
      (show FVec Ideal S256x1 .f32 from iblk m c 1 t) (show IVec S256x8 32 from iblk m c 3 t)
      (show FVec Ideal S256x8 .bf16 from iblk m c 4 t) r e * (show FVec Ideal S256x1 .f32 from iblk m c 1 t) (ix2 r 0)))
      = share m c t (ix2 d e) :=
  Finset.sum_congr rfl fun r _ => by rw [out_blk, codes_blk, scales_blk]; rfl

/-- After the first tile, the second result's block holds that tile's share. -/
theorem weights_first (hd : ∀ r, Distinct (idsAt (ids m c) r)) (t : Fin cfg0.N) (h0 : t.val % 6 = 0)
    (j : S7168x256.Idx) : (outsAt0 m c t.val t.isLt).2.1 j = 0 + share m c t j := by
  have ht := point_lt t
  obtain ⟨d, e, rfl⟩ : ∃ d e, j = ix2 d e := ⟨j 0, j 1, eq_ix2 j⟩
  rw [outsAt0_A m c t h0 (by omega), zero_add]
  frame_out
  exact (weights_at _ _ _ _ _ d e (distinct_blk m c hd t)).trans (share_blk m c t d e)

/-- After a later tile, it holds what the tile before left, plus the tile's share. -/
theorem weights_later (hd : ∀ r, Distinct (idsAt (ids m c) r)) (t : Fin cfg0.N) (h0 : ¬t.val % 6 = 0)
    (j : S7168x256.Idx) : (outsAt0 m c t.val t.isLt).2.1 j
      = (outsAt0 m c (t.val - 1) (Nat.lt_of_le_of_lt (Nat.sub_le _ _) t.isLt)).2.1 j + share m c t j := by
  have ht := point_lt t
  obtain ⟨d, e, rfl⟩ : ∃ d e, j = ix2 d e := ⟨j 0, j 1, eq_ix2 j⟩
  rw [outsAt0_B m c t h0 (by omega)]
  frame_out
  exact (weights_step_at _ _ _ _ _ _ d e (distinct_blk m c hd t)).trans (congrArg _ (share_blk m c t d e))

/-- Where a tile's block of the third result lies in it. -/
theorem logits_emb (t : Fin cfg0.N) (r e : Fin 256) :
    (((win0_7.blk t).view.emb (ix2 r e : S256x256.Idx) 0).val = t.val * 256 + r.val)
      ∧ (((win0_7.blk t).view.emb (ix2 r e : S256x256.Idx) 1).val = e.val) := by
  constructor
  · blk_simp [idx t]
  · blk_simp [idx t]

/-- After the grid, the third result holds the logits' gradient. -/
theorem logits_final (hd : ∀ r, Distinct (idsAt (ids m c) r)) :
    (dats m 0 c).arrAt 7 (cfgs 0).N = fun i : S1536x256.Idx => out m c (i 0) (i 1) := by
  refine (dats m 0 c).arrAt_eq_of_covers 7 _ (by decide +kernel) fun t hf y => ?_
  blk_simp
  rw [after0_7]
  obtain ⟨r, e, rfl⟩ : ∃ r e, y = (ix2 r e : S256x256.Idx) := ⟨y 0, y 1, eq_ix2 y⟩
  rw [logits_point m c hd t r e]
  rw [show (win0_7.blk t).view.emb (ix2 r e : S256x256.Idx) 0 = row t r from Fin.ext (logits_emb t r e).1]
  rw [show (win0_7.blk t).view.emb (ix2 r e : S256x256.Idx) 1 = e from Fin.ext (logits_emb t r e).2]

/-- Where a tile's block of the first result lies in it. -/
theorem codes_emb (t : Fin cfg0.N) (r : Fin 256) (e : Fin 7168) :
    (((win0_5.blk t).view.emb (ix2 r e : S256x7168.Idx) 0).val = t.val * 256 + r.val)
      ∧ (((win0_5.blk t).view.emb (ix2 r e : S256x7168.Idx) 1).val = e.val) := by
  constructor
  · blk_simp [idx t]
  · blk_simp [idx t]

/-- After the grid, the first result holds the codes' gradient. -/
theorem codes_final (hd : ∀ r, Distinct (idsAt (ids m c) r)) :
    (dats m 0 c).arrAt 5 (cfgs 0).N = fun i : S1536x7168.Idx => outCodes m c (i 0) (i 1) := by
  refine (dats m 0 c).arrAt_eq_of_covers 5 _ (by decide +kernel) fun t hf y => ?_
  blk_simp
  rw [after0_5]
  obtain ⟨r, e, rfl⟩ : ∃ r e, y = (ix2 r e : S256x7168.Idx) := ⟨y 0, y 1, eq_ix2 y⟩
  rw [codes_point m c hd t r e]
  rw [show (win0_5.blk t).view.emb (ix2 r e : S256x7168.Idx) 0 = row t r from Fin.ext (codes_emb t r e).1]
  rw [show (win0_5.blk t).view.emb (ix2 r e : S256x7168.Idx) 1 = e from Fin.ext (codes_emb t r e).2]

/-- After the grid, the second result holds the weights' gradient, summed over every token. -/
theorem weights_final (hd : ∀ r, Distinct (idsAt (ids m c) r)) :
    (dats m 0 c).arrAt 6 (cfgs 0).N = fun j : S7168x256.Idx =>
      ∑ r : Fin 1536, codes m c (ix2 r (j 0)) * (out m c r (j 1) * scales m c (ix2 r 0)) := by
  refine (dats m 0 c).arrAt_eq_of_after_last 6 t0_5 (by decide +kernel) _ fun j => ?_
  blk_simp
  rw [after0_6, Pipeline.eq_sum_fin_of_reset_step_apply_last (fun n h => (outsAt0 m c n h).2.1) 6 (fun _ => 0) (share m c)
    (fun t h j => weights_first m c hd t h j) (fun t h j => weights_later m c hd t h j) (le_of_eq N_0) t0_5 rfl j, zero_add]
  exact (Fin.sum_univ_tiles 6 256 rfl fun r : Fin 1536 =>
    codes m c (ix2 r (j 0)) * (out m c r (j 1) * scales m c (ix2 r 0))).symm

end Cert.Proof.KernelArrays

end
-- ==== Proof.KernelEnds.lean ====
/- The kernel's arguments as it reads them and its results as it leaves them: both are reshapes. -/
module

public import proofs.«01_k».proof.Proof.KernelArrays
public import Idealize.ShloMosaic.Lib.Claim

@[expose] public section

set_option maxRecDepth 16384

noncomputable section

namespace Cert.Proof.KernelArrays

open Idealize.ShloMosaic Idealize.SL.Sem Cert.KernelIdeal Cert.KernelIdeal.Gen

variable (m : (ℓ : Loc Cert.KernelIdeal.nD Cert.KernelIdeal.τ Cert.KernelIdeal.sig) → Buf (Elt Ideal) ℓ) (c : Dev nD)

/-- The codes the kernel reads are the argument's, reshaped. -/
theorem codes_entry : codes m c = shapeCast S1536x7168 (m (c.tc.loc main_arg0) : FVec Ideal S2x768x7168 .fp8e4m3) shapeCasts_S2x768x7168_S1536x7168 := rfl

/-- The scales the kernel reads are the argument's, reshaped. -/
theorem scales_entry : scales m c = shapeCast S1536x1 (m (c.tc.loc main_arg1) : FVec Ideal S2x768 .f32) shapeCasts_S2x768_S1536x1 := rfl

/-- The expert ids the kernel reads are the argument's, reshaped. -/
theorem ids_entry : ids m c = shapeCast S1536x8 (m (c.tc.loc main_arg3) : IVec S2x768x8 32) shapeCasts_S2x768x8_S1536x8 := rfl

/-- The gate gradients the kernel reads are the argument's, reshaped. -/
theorem grads_entry : grads m c = shapeCast S1536x8 (m (c.tc.loc main_arg4) : FVec Ideal S2x768x8 .bf16) shapeCasts_S2x768x8_S1536x8 := rfl

/-- The weights the kernel reads are the argument's. -/
theorem weights_entry : weights m c = m (c.tc.loc main_arg2) := V_main_arg2 m c

/-- No two windows stand over one array. -/
theorem arr_inj : Function.Injective (Pipeline.arrRef spec0) := by decide

/-- The first result is the first array, reshaped. -/
theorem codes_exit : Pipeline.afterTail₀ cfgs (dats m) 0 (V0 m) [hostOps1] c main_v5
    = shapeCast S2x768x7168 ((dats m 0 c).arrAt 5 (cfgs 0).N : FVec Ideal S1536x7168 .bf16)
        shapeCasts_S1536x7168_S2x768x7168 := by
  unfold Pipeline.afterTail₀
  simp only [hostOps1, List.flatten_cons, List.flatten_nil, List.append_nil]
  after_results
  exact congrArg (fun x : FVec Ideal S1536x7168 .bf16 => shapeCast S2x768x7168 x shapeCasts_S1536x7168_S2x768x7168)
    (Pipeline.withArrays_arr spec0 arr_inj c (V0 m c) _ 5)

/-- The third result is the third array, reshaped. -/
theorem logits_exit : Pipeline.afterTail₀ cfgs (dats m) 0 (V0 m) [hostOps1] c main_v6
    = shapeCast S2x768x256 ((dats m 0 c).arrAt 7 (cfgs 0).N : FVec Ideal S1536x256 .f32)
        shapeCasts_S1536x256_S2x768x256 := by
  unfold Pipeline.afterTail₀
  simp only [hostOps1, List.flatten_cons, List.flatten_nil, List.append_nil]
  after_results
  exact congrArg (fun x : FVec Ideal S1536x256 .f32 => shapeCast S2x768x256 x shapeCasts_S1536x256_S2x768x256)
    (Pipeline.withArrays_arr spec0 arr_inj c (V0 m c) _ 7)

end Cert.Proof.KernelArrays

end
-- ==== Proof.Ids.lean ====
/- The precondition, read element by element: every token's ids are distinct numbers of experts. -/
module

public import proofs.«01_k».proof.Defs
public import proofs.«01_k».proof.Proof.KernelEnds
public import proofs.«01_k».proof.Proof.Gen.Pre_distinct_experts

@[expose] public section

set_option maxRecDepth 16384

noncomputable section

namespace Cert.Proof.Ids

open Idealize.ShloMosaic Idealize.SL.Sem

/-- A one-bit conjunction is one where both sides are. -/
theorem and_one (a b : BitVec 1) : IntOp.andi a b = 1#1 ↔ a = 1#1 ∧ b = 1#1 := by
  revert a b; decide

/-- A one-bit disjunction is one where a side is. -/
theorem or_one (a b : BitVec 1) : IntOp.ori a b = 1#1 ↔ a = 1#1 ∨ b = 1#1 := by
  revert a b; decide

/-- The comparison for equality is one for equal words. -/
theorem eq_one (x y : BitVec 32) : IntOp.cmpi CmpIPredicate.eq x y = 1#1 ↔ x = y := by
  by_cases h : x = y
  · subst h
    simp [IntOp.cmpi]
  · have hb : (x == y) = false := by simpa using h
    simp [IntOp.cmpi, h, hb]

/-- The comparison for difference is one for unequal words. -/
theorem ne_one (x y : BitVec 32) : IntOp.cmpi CmpIPredicate.ne x y = 1#1 ↔ x ≠ y := by
  by_cases h : x = y
  · subst h
    simp [IntOp.cmpi]
  · have hb : (x != y) = true := by simpa using h
    simp [IntOp.cmpi, h, hb]

/-- A word that is at least zero and below 256, read signed, is below 256 read unsigned. -/
theorem lt_of_cmp (x : BitVec 32) (h0 : IntOp.cmpi CmpIPredicate.sge x 0#32 = 1#1)
    (h1 : IntOp.cmpi CmpIPredicate.slt x 256#32 = 1#1) : x.toNat < 256 := by
  have of_one : ∀ p : Bool, BitVec.ofBool p = 1#1 → p = true := by decide
  simp [IntOp.cmpi, BitVec.slt, BitVec.sle] at h0 h1
  have h0' := of_decide_eq_true (of_one _ h0)
  have h1' := of_decide_eq_true (of_one _ h1)
  rw [BitVec.toInt_eq_toNat_cond] at h0' h1'
  have := x.isLt
  split at h0' <;> split at h1' <;> omega

open Cert.Pre_distinct_experts in
/-- What the precondition says of one token. -/
theorem distinct_of_pre (a0 : FVec Ideal S2x768x7168 .fp8e4m3) (a1 : FVec Ideal S2x768 .f32)
    (a2 : FVec Ideal S7168x256 .bf16) (a3 : IVec S2x768x8 32) (a4 : FVec Ideal S2x768x8 .bf16)
    (h : Cert.Pre_distinct_experts.fn a0 a1 a2 a3 a4 = fun _ => 1#1) (b : Fin 2) (s : Fin 768) :
    Distinct fun k => a3 (ix3 b s k) := by
  have hp : ∀ k j : Fin 8, ((a3 (ix3 b s k)).toNat < 256) ∧ (a3 (ix3 b s k) ≠ a3 (ix3 b s j) ∨ k = j) := fun k j => by
    have hx : Cert.Pre_distinct_experts.fn a0 a1 a2 a3 a4 (ix4 b s k j) = 1#1 := congrFun h _
    revert hx
    pointwise [Cert.Pre_distinct_experts.fn]
    rw [and_one, and_one, or_one, ne_one, eq_one]
    rintro ⟨⟨h0, h1⟩, h2⟩
    refine ⟨lt_of_cmp _ h0 h1, h2.imp_right fun e => ?_⟩
    have e' := congrArg BitVec.toNat e
    rw [BitVec.toNat_ofNat, BitVec.toNat_ofNat, Nat.mod_eq_of_lt (by omega), Nat.mod_eq_of_lt (by omega)] at e'
    exact Fin.ext e'
  exact ⟨fun k => (hp k 0).1, fun k j e => (hp k j).2.resolve_left fun hne => hne e⟩

open Cert.KernelIdeal Cert.KernelIdeal.Gen in
/-- Token `r` of the flat ids is token `r % 768` of batch `r / 768`. -/
theorem reshape_at (x : IVec S2x768x8 32) (r : Fin 1536) (k : Fin 8) :
    shapeCast S1536x8 x shapeCasts_S2x768x8_S1536x8 (ix2 r k)
      = x (ix3 ⟨r.val / 768, by omega⟩ ⟨r.val % 768, by omega⟩ k) := by
  pointwise

open Cert.KernelIdeal Cert.KernelIdeal.Gen in
/-- Under the precondition, every token the kernel reads has distinct numbers of experts. -/
theorem distinct (m : (ℓ : Loc Cert.KernelIdeal.nD Cert.KernelIdeal.τ Cert.KernelIdeal.sig) → Buf (Elt Ideal) ℓ)
    (h : Cert.Pre_KernelIdeal_distinct_experts m) (c : Dev Cert.KernelIdeal.nD) (r : Fin 1536) :
    Distinct (idsAt (KernelArrays.ids m c) r) := by
  have hd := distinct_of_pre _ _ _ _ _ (h c) ⟨r.val / 768, by omega⟩ ⟨r.val % 768, by omega⟩
  have e : idsAt (KernelArrays.ids m c) r = fun k => (m (c.tc.loc main_arg3) : IVec S2x768x8 32) _ :=
    funext fun k => (congrFun (KernelArrays.ids_entry m c) (ix2 r k)).trans (reshape_at _ r k)
  exact e ▸ hd

end Cert.Proof.Ids

end
-- ==== Proof.Plain.lean ====
/- What the reference computes on the whole arrays, element by element. -/
module

public import proofs.«01_k».proof.Proof.Rows
public import proofs.«01_k».proof.Proof.Gen.ReferenceIdeal.Frame

@[expose] public section

set_option maxRecDepth 16384

noncomputable section

namespace Cert.Proof.Plain

open Idealize.ShloMosaic Idealize.SL.Sem Cert.ReferenceIdeal Cert.ReferenceIdeal.Gen

variable (x0 : Vec Ideal S1536x7168 .fp8e4m3) (x1 : Vec Ideal S1536x1 .f32) (x2 : Vec Ideal S7168x256 .bf16)
  (x3 : Vec Ideal S1536x8 .i32) (x4 : Vec Ideal S1536x8 .bf16)

/-- The gates of a token's listed experts. -/
theorem gates_at (r : Fin 1536) (k : Fin 8) :
    k0_pay8 x0 x1 x2 x3 (ix2 r k) = listGate (logitsAt x0 x2 x1 r) (idsAt x3 r) k := by
  pointwise [k0_pay8, k0_pay5, k0_pay6, k0_pay7]
  simp only [select_eq_word]
  rfl

/-- The divisor: a token's sum of gates, or one where it is not positive. -/
theorem denom_at (r : Fin 1536) :
    k0_pay9 x0 x1 x2 x3 (ix2 r 0) = denom (∑ k, listGate (logitsAt x0 x2 x1 r) (idsAt x3 r) k) := by
  pointwise [k0_pay9]
  simp only [gates_at]
  rfl

/-- The logits' gradient. -/
theorem out_at (r : Fin 1536) (e : Fin 256) :
    k0_pay1 (k0_pay7 (F := Ideal) x3) (k0_pay8 x0 x1 x2 x3) (k0_pay9 x0 x1 x2 x3) (k0_pay10 x0 x1 x2 x3 x4) (ix2 r e)
      = listOut x0 x2 x1 x3 x4 r e := by
  pointwise [k0_pay1, k0_pay10, k0_pay7]
  simp only [gates_at, denom_at, select_eq_word]
  rfl

/-- The codes' gradient. -/
theorem codes_at (r : Fin 1536) (d : Fin 7168) :
    k0_pay3 x2 (k0_pay7 (F := Ideal) x3) (k0_pay8 x0 x1 x2 x3) (k0_pay9 x0 x1 x2 x3) (k0_pay10 x0 x1 x2 x3 x4) (ix2 r d)
      = ∑ e, listOut x0 x2 x1 x3 x4 r e * x2 (ix2 d e) := by
  pointwise [k0_pay3, k0_pay2]
  simp only [out_at]

/-- The weights' gradient. -/
theorem weights_at (d : Fin 7168) (e : Fin 256) :
    k0_pay4 (k0_pay5 x0) (k0_pay6 x1) (k0_pay7 (F := Ideal) x3) (k0_pay8 x0 x1 x2 x3) (k0_pay9 x0 x1 x2 x3)
      (k0_pay10 x0 x1 x2 x3 x4) (ix2 d e)
      = ∑ r : Fin 1536, x0 (ix2 r d) * (listOut x0 x2 x1 x3 x4 r e * x1 (ix2 r 0)) := by
  pointwise [k0_pay4, k0_pay2, k0_pay5, k0_pay6]
  simp only [out_at]

/-- Reading the codes whole reads them. -/
theorem ld_x0_r0_0 : View.ld x0 r0_0 = x0 := by
  funext y
  pointwise

/-- Reading the scales whole reads them. -/
theorem ld_x1_r0_1 : View.ld x1 r0_1 = x1 := by
  funext y
  pointwise
  blk_ext

/-- Reading the weights whole reads them. -/
theorem ld_x2_r0_2 : View.ld x2 r0_2 = x2 := by
  funext y
  pointwise

/-- Reading the expert ids whole reads them. -/
theorem ld_x3_r0_3 : View.ld x3 r0_3 = x3 := by
  funext y
  pointwise

/-- Reading the gate gradients whole reads them. -/
theorem ld_x4_r0_3 : View.ld x4 r0_3 = x4 := by
  funext y
  pointwise

/-- The stored logits' gradient. -/
theorem logits_stored (r : Fin 1536) (e : Fin 256) :
    k0_pay1 (k0_pay11 x0 x1 x2 x3 x4) (k0_pay12 x0 x1 x2 x3 x4) (k0_pay13 x0 x1 x2 x3 x4) (k0_pay14 x0 x1 x2 x3 x4) (ix2 r e)
      = listOut x0 x2 x1 x3 x4 r e := by
  unfold k0_pay11 k0_pay12 k0_pay13 k0_pay14
  rw [ld_x0_r0_0, ld_x1_r0_1, ld_x2_r0_2, ld_x3_r0_3, ld_x4_r0_3]
  exact out_at _ _ _ _ _ r e

/-- The stored codes' gradient. -/
theorem codes_stored (r : Fin 1536) (d : Fin 7168) :
    k0_pay3 x2 (k0_pay11 x0 x1 x2 x3 x4) (k0_pay12 x0 x1 x2 x3 x4) (k0_pay13 x0 x1 x2 x3 x4) (k0_pay14 x0 x1 x2 x3 x4) (ix2 r d)
      = ∑ e, listOut x0 x2 x1 x3 x4 r e * x2 (ix2 d e) := by
  unfold k0_pay11 k0_pay12 k0_pay13 k0_pay14
  rw [ld_x0_r0_0, ld_x1_r0_1, ld_x2_r0_2, ld_x3_r0_3, ld_x4_r0_3]
  exact codes_at _ _ _ _ _ r d

/-- The stored weights' gradient. -/
theorem weights_stored (d : Fin 7168) (e : Fin 256) :
    k0_pay4 (k0_pay5 x0) (k0_pay6 x1) (k0_pay11 x0 x1 x2 x3 x4) (k0_pay12 x0 x1 x2 x3 x4) (k0_pay13 x0 x1 x2 x3 x4) (k0_pay14 x0 x1 x2 x3 x4) (ix2 d e)
      = ∑ r : Fin 1536, x0 (ix2 r d) * (listOut x0 x2 x1 x3 x4 r e * x1 (ix2 r 0)) := by
  unfold k0_pay11 k0_pay12 k0_pay13 k0_pay14
  rw [ld_x0_r0_0, ld_x1_r0_1, ld_x2_r0_2, ld_x3_r0_3, ld_x4_r0_3]
  exact weights_at _ _ _ _ _ d e

end Cert.Proof.Plain

end
-- ==== Proof.PlainArrays.lean ====
/- What the reference's three result arrays hold, from the arrays it is launched on. -/
module

public import proofs.«01_k».proof.Proof.Plain

@[expose] public section

set_option maxRecDepth 16384

noncomputable section

namespace Cert.Proof.PlainArrays

open Idealize.ShloMosaic Idealize.SL.Sem Cert.ReferenceIdeal Cert.ReferenceIdeal.Gen Cert.Proof.Plain

variable (m : (ℓ : Loc Cert.ReferenceIdeal.nD Cert.ReferenceIdeal.τ Cert.ReferenceIdeal.sig) → Buf (Elt Ideal) ℓ)
  (c : Dev nD)

/-- The codes, as the body reads them. -/
abbrev codes : FVec Ideal S1536x7168 .fp8e4m3 := V m c main_v0
/-- The scales, as the body reads them. -/
abbrev scales : FVec Ideal S1536x1 .f32 := V m c main_v1
/-- The router's weights, as the body reads them. -/
abbrev weights : FVec Ideal S7168x256 .bf16 := V m c main_arg2
/-- The expert ids, as the body reads them. -/
abbrev ids : IVec S1536x8 32 := V m c main_v2
/-- The gate gradients, as the body reads them. -/
abbrev grads : FVec Ideal S1536x8 .bf16 := V m c main_v3

/-- Every window's block starts at the array's origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The block of the codes is all of them. -/
theorem codes_blk (t : Fin cfg0.N) : (iblk m c 0 t : FVec Ideal S1536x7168 .fp8e4m3) = codes m c := by
  funext y
  blk_point [iblk, idx t]
/-- The block of the scales is all of them. -/
theorem scales_blk (t : Fin cfg0.N) : (iblk m c 1 t : FVec Ideal S1536x1 .f32) = scales m c := by
  funext y
  blk_point [iblk, idx t]
/-- The block of the weights is all of them. -/
theorem weights_blk (t : Fin cfg0.N) : (iblk m c 2 t : FVec Ideal S7168x256 .bf16) = weights m c := by
  funext y
  blk_point [iblk, idx t]
/-- The block of the expert ids is all of them. -/
theorem ids_blk (t : Fin cfg0.N) : (iblk m c 3 t : IVec S1536x8 32) = ids m c := by
  funext y
  blk_point [iblk, idx t]
/-- The block of the gate gradients is all of them. -/
theorem grads_blk (t : Fin cfg0.N) : (iblk m c 4 t : FVec Ideal S1536x8 .bf16) = grads m c := by
  funext y
  blk_point [iblk, idx t]

/-- The logits' gradient of a token, on the arrays the body reads. -/
abbrev out (r : Fin 1536) (e : Fin 256) : EReal := listOut (codes m c) (weights m c) (scales m c) (ids m c) (grads m c) r e

/-- The third result holds the logits' gradient. -/
theorem logits_final : (dats m 0 c).arrAt 7 (cfgs 0).N = fun i : S1536x256.Idx => out m c (i 0) (i 1) := by
  refine (dats m 0 c).arrAt_eq_of_after_last 7 t0_0 (by decide +kernel) _ fun j => ?_
  blk_simp
  rw [after0_7]
  obtain ⟨r, e, rfl⟩ : ∃ r e, j = (ix2 r e : S1536x256.Idx) := ⟨j 0, j 1, eq_ix2 j⟩
  frame_out
  refine (logits_stored _ _ _ _ _ r e).trans ?_
  rw [codes_blk, scales_blk, weights_blk, ids_blk, grads_blk]
  rfl

/-- The first result holds the codes' gradient. -/
theorem codes_final : (dats m 0 c).arrAt 5 (cfgs 0).N = fun i : S1536x7168.Idx =>
    ∑ e, out m c (i 0) e * weights m c (ix2 (i 1) e) := by
  refine (dats m 0 c).arrAt_eq_of_after_last 5 t0_0 (by decide +kernel) _ fun j => ?_
  blk_simp
  rw [after0_5]
  obtain ⟨r, d, rfl⟩ : ∃ r d, j = (ix2 r d : S1536x7168.Idx) := ⟨j 0, j 1, eq_ix2 j⟩
  frame_out
  refine (codes_stored _ _ _ _ _ r d).trans ?_
  rw [codes_blk, scales_blk, weights_blk, ids_blk, grads_blk]
  rfl

/-- The second result holds the weights' gradient. -/
theorem weights_final : (dats m 0 c).arrAt 6 (cfgs 0).N = fun j : S7168x256.Idx =>
    ∑ r : Fin 1536, codes m c (ix2 r (j 0)) * (out m c r (j 1) * scales m c (ix2 r 0)) := by
  refine (dats m 0 c).arrAt_eq_of_after_last 6 t0_0 (by decide +kernel) _ fun j => ?_
  blk_simp
  rw [after0_6]
  obtain ⟨d, e, rfl⟩ : ∃ d e, j = (ix2 d e : S7168x256.Idx) := ⟨j 0, j 1, eq_ix2 j⟩
  frame_out
  refine (weights_stored _ _ _ _ _ d e).trans ?_
  rw [codes_blk, scales_blk, weights_blk, ids_blk, grads_blk]
  rfl

end Cert.Proof.PlainArrays

end
-- ==== Proof.PlainEnds.lean ====
/- The reference's arguments as it reads them and its results as it leaves them: both are reshapes. -/
module

public import proofs.«01_k».proof.Proof.PlainArrays
public import Idealize.ShloMosaic.Lib.Claim

@[expose] public section

set_option maxRecDepth 16384

noncomputable section

namespace Cert.Proof.PlainArrays

open Idealize.ShloMosaic Idealize.SL.Sem Cert.ReferenceIdeal Cert.ReferenceIdeal.Gen

variable (m : (ℓ : Loc Cert.ReferenceIdeal.nD Cert.ReferenceIdeal.τ Cert.ReferenceIdeal.sig) → Buf (Elt Ideal) ℓ) (c : Dev nD)

/-- The codes the reference reads are the argument's, reshaped. -/
theorem codes_entry : codes m c = shapeCast S1536x7168 (m (c.tc.loc main_arg0) : FVec Ideal S2x768x7168 .fp8e4m3) shapeCasts_S2x768x7168_S1536x7168 := rfl

/-- The scales the reference reads are the argument's, reshaped. -/
theorem scales_entry : scales m c = shapeCast S1536x1 (m (c.tc.loc main_arg1) : FVec Ideal S2x768 .f32) shapeCasts_S2x768_S1536x1 := rfl

/-- The expert ids the reference reads are the argument's, reshaped. -/
theorem ids_entry : ids m c = shapeCast S1536x8 (m (c.tc.loc main_arg3) : IVec S2x768x8 32) shapeCasts_S2x768x8_S1536x8 := rfl

/-- The gate gradients the reference reads are the argument's, reshaped. -/
theorem grads_entry : grads m c = shapeCast S1536x8 (m (c.tc.loc main_arg4) : FVec Ideal S2x768x8 .bf16) shapeCasts_S2x768x8_S1536x8 := rfl

/-- The weights the reference reads are the argument's. -/
theorem weights_entry : weights m c = m (c.tc.loc main_arg2) := V_main_arg2 m c

/-- No two windows stand over one array. -/
theorem arr_inj : Function.Injective (Pipeline.arrRef spec0) := by decide

/-- The first result is the first array, reshaped. -/
theorem codes_exit : Pipeline.afterTail₀ cfgs (dats m) 0 (V0 m) [hostOps1] c main_v5
    = shapeCast S2x768x7168 ((dats m 0 c).arrAt 5 (cfgs 0).N : FVec Ideal S1536x7168 .bf16)
        shapeCasts_S1536x7168_S2x768x7168 := by
  unfold Pipeline.afterTail₀
  simp only [hostOps1, List.flatten_cons, List.flatten_nil, List.append_nil]
  after_results
  exact congrArg (fun x : FVec Ideal S1536x7168 .bf16 => shapeCast S2x768x7168 x shapeCasts_S1536x7168_S2x768x7168)
    (Pipeline.withArrays_arr spec0 arr_inj c (V0 m c) _ 5)

/-- The third result is the third array, reshaped. -/
theorem logits_exit : Pipeline.afterTail₀ cfgs (dats m) 0 (V0 m) [hostOps1] c main_v6
    = shapeCast S2x768x256 ((dats m 0 c).arrAt 7 (cfgs 0).N : FVec Ideal S1536x256 .f32)
        shapeCasts_S1536x256_S2x768x256 := by
  unfold Pipeline.afterTail₀
  simp only [hostOps1, List.flatten_cons, List.flatten_nil, List.append_nil]
  after_results
  exact congrArg (fun x : FVec Ideal S1536x256 .f32 => shapeCast S2x768x256 x shapeCasts_S1536x256_S2x768x256)
    (Pipeline.withArrays_arr spec0 arr_inj c (V0 m c) _ 7)

end Cert.Proof.PlainArrays

end
-- ==== Proof.Equal.lean ====
/- The kernel's three result arrays are the reference's, from equal arguments under the precondition. -/
module

public import proofs.«01_k».proof.Proof.Ids
public import proofs.«01_k».proof.Proof.PlainEnds

@[expose] public section

set_option maxRecDepth 16384

noncomputable section

namespace Cert.Proof.Equal

open Idealize.ShloMosaic Idealize.SL.Sem Cert.KernelIdeal

/-- The three result arrays of both programs, from equal arrays read, on tokens of distinct ids. -/
theorem arrays
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev nD) (hd : ∀ r, Distinct (idsAt (KernelArrays.ids m c) r))
    (h0 : PlainArrays.codes m' c = KernelArrays.codes m c) (h1 : PlainArrays.scales m' c = KernelArrays.scales m c)
    (h2 : PlainArrays.weights m' c = KernelArrays.weights m c) (h3 : PlainArrays.ids m' c = KernelArrays.ids m c)
    (h4 : PlainArrays.grads m' c = KernelArrays.grads m c) :
    ((Cert.ReferenceIdeal.Gen.dats m' 0 c).arrAt 5 (Cert.ReferenceIdeal.cfgs 0).N : FVec Ideal S1536x7168 .bf16)
        = (Cert.KernelIdeal.Gen.dats m 0 c).arrAt 5 (Cert.KernelIdeal.cfgs 0).N
      ∧ ((Cert.ReferenceIdeal.Gen.dats m' 0 c).arrAt 6 (Cert.ReferenceIdeal.cfgs 0).N : FVec Ideal S7168x256 .f32)
        = (Cert.KernelIdeal.Gen.dats m 0 c).arrAt 6 (Cert.KernelIdeal.cfgs 0).N
      ∧ ((Cert.ReferenceIdeal.Gen.dats m' 0 c).arrAt 7 (Cert.ReferenceIdeal.cfgs 0).N : FVec Ideal S1536x256 .f32)
        = (Cert.KernelIdeal.Gen.dats m 0 c).arrAt 7 (Cert.KernelIdeal.cfgs 0).N := by
  have ho : ∀ r e, PlainArrays.out m' c r e = KernelArrays.out m c r e := fun r e => by
    unfold PlainArrays.out KernelArrays.out
    rw [h0, h1, h2, h3, h4, rowOut_eq _ _ _ _ _ r e (hd r)]
  have hc : ∀ (r : Fin 1536) (d : Fin 7168), ∑ e, PlainArrays.out m' c r e * PlainArrays.weights m' c (ix2 d e)
      = ∑ e, KernelArrays.out m c r e * KernelArrays.weights m c (ix2 d e) := fun r d => by
    rw [h2]
    simp only [ho]
  have hw : ∀ (d : Fin 7168) (e : Fin 256), ∑ r : Fin 1536, PlainArrays.codes m' c (ix2 r d)
        * (PlainArrays.out m' c r e * PlainArrays.scales m' c (ix2 r 0))
      = ∑ r : Fin 1536, KernelArrays.codes m c (ix2 r d) * (KernelArrays.out m c r e * KernelArrays.scales m c (ix2 r 0)) :=
    fun d e => by
      rw [h0, h1]
      simp only [ho]
  refine ⟨?_, ?_, ?_⟩
  · refine (PlainArrays.codes_final m' c).trans (Eq.trans ?_ (KernelArrays.codes_final m c hd).symm)
    funext i
    exact hc _ _
  · refine (PlainArrays.weights_final m' c).trans (Eq.trans ?_ (KernelArrays.weights_final m c hd).symm)
    funext j
    exact hw _ _
  · refine (PlainArrays.logits_final m' c).trans (Eq.trans ?_ (KernelArrays.logits_final m c hd).symm)
    funext i
    exact ho _ _

/-- From equal arguments under the precondition, the three result arrays are equal. -/
theorem results
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_distinct_experts m) (c : Dev nD)
    (a0 : m' (c.tc.loc Cert.ReferenceIdeal.main_arg0) = m (c.tc.loc main_arg0))
    (a1 : m' (c.tc.loc Cert.ReferenceIdeal.main_arg1) = m (c.tc.loc main_arg1))
    (a2 : m' (c.tc.loc Cert.ReferenceIdeal.main_arg2) = m (c.tc.loc main_arg2))
    (a3 : m' (c.tc.loc Cert.ReferenceIdeal.main_arg3) = m (c.tc.loc main_arg3))
    (a4 : m' (c.tc.loc Cert.ReferenceIdeal.main_arg4) = m (c.tc.loc main_arg4)) :
    ((Cert.ReferenceIdeal.Gen.dats m' 0 c).arrAt 5 (Cert.ReferenceIdeal.cfgs 0).N : FVec Ideal S1536x7168 .bf16)
        = (Cert.KernelIdeal.Gen.dats m 0 c).arrAt 5 (Cert.KernelIdeal.cfgs 0).N
      ∧ ((Cert.ReferenceIdeal.Gen.dats m' 0 c).arrAt 6 (Cert.ReferenceIdeal.cfgs 0).N : FVec Ideal S7168x256 .f32)
        = (Cert.KernelIdeal.Gen.dats m 0 c).arrAt 6 (Cert.KernelIdeal.cfgs 0).N
      ∧ ((Cert.ReferenceIdeal.Gen.dats m' 0 c).arrAt 7 (Cert.ReferenceIdeal.cfgs 0).N : FVec Ideal S1536x256 .f32)
        = (Cert.KernelIdeal.Gen.dats m 0 c).arrAt 7 (Cert.KernelIdeal.cfgs 0).N :=
  arrays m m' c (Ids.distinct m hpre c)
    (by rw [PlainArrays.codes_entry, KernelArrays.codes_entry, a0])
    (by rw [PlainArrays.scales_entry, KernelArrays.scales_entry, a1])
    (by rw [PlainArrays.weights_entry, KernelArrays.weights_entry, a2])
    (by rw [PlainArrays.ids_entry, KernelArrays.ids_entry, a3])
    (by rw [PlainArrays.grads_entry, KernelArrays.grads_entry, a4])

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_distinct_experts
public import Idealize.ShloMosaic.Adequacy
public import Idealize.ShloMosaic.Init
public import Idealize.ShloMosaic.Lib.Claim
public import proofs.«01_k».proof.Proof.Equal

@[expose] public section

noncomputable section

namespace Cert.Proof

open Idealize.ShloMosaic Idealize.SL.Sem Cert.Kernel

set_option maxRecDepth 16384

/-- Where every token's expert ids are distinct experts, the kernel and the reference end with equal results. -/
theorem algebraic :
    Cert.algebraic_KernelIdeal_ReferenceIdeal_pre_distinct_experts (hKernelIdeal := Cert.KernelIdeal.Gen.facts)
      (hReferenceIdeal := Cert.ReferenceIdeal.Gen.facts) (hPre_distinct_experts := Cert.Pre_distinct_experts.Gen.facts) := by
  pair_intro
  · run_from Cert.KernelIdeal.Gen.run_main m g & Cert.KernelIdeal.Gen.unchanged m g
  · run_from Cert.ReferenceIdeal.Gen.run_main m' g' & Cert.ReferenceIdeal.Gen.unchanged m' g'
    all_goals
      obtain ⟨a0, a1, a2, a3, a4⟩ := hagree c
      have h := Equal.results m m' hpre c a0 a1 a2 a3 a4
    · refine (PlainArrays.codes_exit m' c).trans (Eq.trans ?_ (KernelArrays.codes_exit m c).symm)
      exact congrArg (fun v => shapeCast Cert.KernelIdeal.S2x768x7168 v _) h.1
    · exact h.2.1
    · refine (PlainArrays.logits_exit m' c).trans (Eq.trans ?_ (KernelArrays.logits_exit m c).symm)
      exact congrArg (fun v => shapeCast Cert.KernelIdeal.S2x768x256 v _) h.2.2

theorem claim : Cert.Claim :=
  ⟨Cert.Kernel.Gen.facts, Cert.KernelIdeal.Gen.facts, Cert.ReferenceIdeal.Gen.facts, Cert.Pre_distinct_experts.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, algebraic⟩

end Cert.Proof

end
